-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inv_in_window [hPre_inv_in_window : Cert.Pre_inv_in_window.Facts] (m : (ℓ : Loc Cert.KernelIdeal.nD Cert.KernelIdeal.τ Cert.KernelIdeal.sig) → Buf (Elt Ideal) ℓ) : Prop :=
  ∀ c : Dev Cert.KernelIdeal.nD,
    (Cert.Pre_inv_in_window.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inv_in_window [hPre_inv_in_window : Cert.Pre_inv_in_window.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inv_in_window.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inv_in_window [hKernelIdeal : Cert.KernelIdeal.Facts] [hPre_inv_in_window : Cert.Pre_inv_in_window.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inv_in_window m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inv_in_window [hReferenceIdeal : Cert.ReferenceIdeal.Facts] [hPre_inv_in_window : Cert.Pre_inv_in_window.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inv_in_window m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inv_in_window [hKernelIdeal : Cert.KernelIdeal.Facts] [hReferenceIdeal : Cert.ReferenceIdeal.Facts] [hPre_inv_in_window : Cert.Pre_inv_in_window.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inv_in_window m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inv_in_window : Cert.Pre_inv_in_window.Facts),
    quiescent_Kernel (hKernel := hKernel)
    ∧ quiescent_KernelIdeal (hKernelIdeal := hKernelIdeal)
    ∧ quiescent_KernelIdeal_pre_inv_in_window (hKernelIdeal := hKernelIdeal) (hPre_inv_in_window := hPre_inv_in_window)
    ∧ quiescent_ReferenceIdeal (hReferenceIdeal := hReferenceIdeal)
    ∧ quiescent_ReferenceIdeal_pre_inv_in_window (hReferenceIdeal := hReferenceIdeal) (hPre_inv_in_window := hPre_inv_in_window)
    ∧ preserves_Kernel_KernelIdeal
    ∧ algebraic_KernelIdeal_ReferenceIdeal_pre_inv_in_window (hKernelIdeal := hKernelIdeal) (hReferenceIdeal := hReferenceIdeal) (hPre_inv_in_window := hPre_inv_in_window)
-- ==== Pre_inv_in_window.lean ====
abbrev S1024x48 : Shape := ⟨2, ![1024, 48]⟩
abbrev S8388608 : Shape := ⟨1, ![8388608]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S1024x48 .bf16) (main_arg1 : IVec S8388608 32) (main_arg2 : IVec S32768 32) (main_arg3 : FVec F S32768 .f32) : IVec S32768 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 32 := constantI S_ 32 512#32
  let main_v2 : IVec S32768 32 := broadcastInDim S32768 ![] bcast_S_S32768 main_c_0
  let main_v3 : IVec S32768 1 := cmpi .slt main_arg2 main_v2
  let main_v4 : IVec S32768 1 := andi main_v1 main_v3
  main_v4
-- ==== Kernel.lean ====
abbrev S1024x48 : Shape := ⟨2, ![1024, 48]⟩
abbrev S8388608 : Shape := ⟨1, ![8388608]⟩
abbrev S32768 : Shape := ⟨1, ![32768]⟩
abbrev S48x1024 : Shape := ⟨2, ![48, 1024]⟩
abbrev S256x128 : Shape := ⟨2, ![256, 128]⟩
abbrev S256x256x128 : Shape := ⟨3, ![256, 256, 128]⟩
abbrev S48x32768 : Shape := ⟨2, ![48, 32768]⟩
abbrev S8x256x128 : Shape := ⟨3, ![8, 256, 128]⟩
abbrev S8x128 : Shape := ⟨2, ![8, 128]⟩
abbrev S1x256x128 : Shape := ⟨3, ![1, 256, 128]⟩
abbrev S256x256 : Shape := ⟨2, ![256, 256]⟩
abbrev S1024x256 : Shape := ⟨2, ![1024, 256]⟩
abbrev S48x256 : Shape := ⟨2, ![48, 256]⟩
abbrev S48x128 : Shape := ⟨2, ![48, 128]⟩
abbrev S1x128 : Shape := ⟨2, ![1, 128]⟩
abbrev S48x128x1 : Shape := ⟨3, ![48, 128, 1]⟩
abbrev S32768x48 : Shape := ⟨2, ![32768, 48]⟩

abbrev nBuf : Space → Nat
  | .hbm => 10
  | .vmem => 9
  | .smem => 0
  | _ => 0

abbrev bufTy : (tb : Table) → Fin (tcTables nBuf tb) → BufTy
  | .hbm, ⟨0, _⟩ => ⟨S1024x48, .bf16⟩
  | .hbm, ⟨1, _⟩ => ⟨S8388608, .i32⟩
  | .hbm, ⟨2, _⟩ => ⟨S32768, .i32⟩
  | .hbm, ⟨3, _⟩ => ⟨S32768, .f32⟩
  | .hbm, ⟨4, _⟩ => ⟨S48x1024, .bf16⟩
  | .hbm, ⟨5, _⟩ => ⟨S256x128, .f32⟩
  | .hbm, ⟨6, _⟩ => ⟨S256x256x128, .i32⟩
  | .hbm, ⟨7, _⟩ => ⟨S256x128, .i32⟩
  | .hbm, ⟨8, _⟩ => ⟨S48x32768, .bf16⟩
  | .hbm, ⟨9, _⟩ => ⟨S32768x48, .bf16⟩
  | .local _ .vmem, ⟨0, _⟩ => ⟨S48x1024, .bf16⟩
  | .local _ .vmem, ⟨1, _⟩ => ⟨S8x256x128, .i32⟩
  | .local _ .vmem, ⟨2, _⟩ => ⟨S8x256x128, .i32⟩
  | .local _ .vmem, ⟨3, _⟩ => ⟨S8x128, .i32⟩
  | .local _ .vmem, ⟨4, _⟩ => ⟨S8x128, .i32⟩
  | .local _ .vmem, ⟨5, _⟩ => ⟨S8x128, .f32⟩
  | .local _ .vmem, ⟨6, _⟩ => ⟨S8x128, .f32⟩
  | .local _ .vmem, ⟨7, _⟩ => ⟨S48x1024, .bf16⟩
  | .local _ .vmem, ⟨8, _⟩ => ⟨S48x1024, .bf16⟩
  | _, _ => ⟨S1024x48, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S48x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x48 : Shape := ⟨2, ![1024, 48]⟩
abbrev S8388608 : Shape := ⟨1, ![8388608]⟩
abbrev S32768 : Shape := ⟨1, ![32768]⟩
abbrev S256x256x128 : Shape := ⟨3, ![256, 256, 128]⟩
abbrev S256x256x4x128 : Shape := ⟨4, ![256, 256, 4, 128]⟩
abbrev S4 : Shape := ⟨1, ![4]⟩
abbrev S_ : Shape := ⟨0, ![]⟩
abbrev S256x1024x128 : Shape := ⟨3, ![256, 1024, 128]⟩
abbrev S1024x256x128 : Shape := ⟨3, ![1024, 256, 128]⟩
abbrev S1024x32768 : Shape := ⟨2, ![1024, 32768]⟩
abbrev S48x1024 : Shape := ⟨2, ![48, 1024]⟩
abbrev S48x32768 : Shape := ⟨2, ![48, 32768]⟩
abbrev S64 : Shape := ⟨1, ![64]⟩
abbrev S64x1 : Shape := ⟨2, ![64, 1]⟩
abbrev S64x512 : Shape := ⟨2, ![64, 512]⟩
abbrev S32768x1 : Shape := ⟨2, ![32768, 1]⟩
abbrev S1x32768 : Shape := ⟨2, ![1, 32768]⟩
abbrev S32768x48 : Shape := ⟨2, ![32768, 48]⟩

abbrev nBuf : Space → Nat
  | .hbm => 48
  | .vmem => 0
  | .smem => 0
  | _ => 0

abbrev bufTy : (tb : Table) → Fin (tcTables nBuf tb) → BufTy
  | .hbm, ⟨0, _⟩ => ⟨S1024x48, .bf16⟩
  | .hbm, ⟨1, _⟩ => ⟨S8388608, .i32⟩
  | .hbm, ⟨2, _⟩ => ⟨S32768, .i32⟩
  | .hbm, ⟨3, _⟩ => ⟨S32768, .f32⟩
  | .hbm, ⟨4, _⟩ => ⟨S256x256x128, .i32⟩
  | .hbm, ⟨5, _⟩ => ⟨S256x256x4x128, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S256x256x4x128, .i32⟩
  | .hbm, ⟨14, _⟩ => ⟨S256x256x4x128, .i32⟩
  | .hbm, ⟨15, _⟩ => ⟨S_, .i32⟩
  | .hbm, ⟨16, _⟩ => ⟨S256x256x4x128, .i32⟩
  | .hbm, ⟨17, _⟩ => ⟨S256x256x4x128, .i32⟩
  | .hbm, ⟨18, _⟩ => ⟨S256x1024x128, .i32⟩
  | .hbm, ⟨19, _⟩ => ⟨S1024x256x128, .i32⟩
  | .hbm, ⟨20, _⟩ => ⟨S1024x32768, .i32⟩
  | .hbm, ⟨21, _⟩ => ⟨S1024x32768, .f32⟩
  | .hbm, ⟨22, _⟩ => ⟨S48x1024, .bf16⟩
  | .hbm, ⟨23, _⟩ => ⟨S48x1024, .f32⟩
  | .hbm, ⟨24, _⟩ => ⟨S48x32768, .f32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64x512, .i32⟩
  | .hbm, ⟨31, _⟩ => ⟨S64x512, .i32⟩
  | .hbm, ⟨32, _⟩ => ⟨S64x512, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S48x32768, .f32⟩
  | .hbm, ⟨43, _⟩ => ⟨S1x32768, .f32⟩
  | .hbm, ⟨44, _⟩ => ⟨S48x32768, .f32⟩
  | .hbm, ⟨45, _⟩ => ⟨S48x32768, .f32⟩
  | .hbm, ⟨46, _⟩ => ⟨S48x32768, .bf16⟩
  | .hbm, ⟨47, _⟩ => ⟨S32768x48, .bf16⟩
  | _, _ => ⟨S1024x48, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.Block.lean ====
/-
  One block of the product kernel: the eight stored tiles are one computation, `rowBlk`, at eight rows of the index and
  scale blocks, over the four accumulators of the window each row belongs to.
-/
module

public import proofs.«01_k».proof.Proof.Gen.KernelIdeal.Frame
public import Idealize.ShloMosaic.Lib.ValueIdx
public import Idealize.ShloMosaic.Lib.Pointwise

@[expose] public section

noncomputable section

namespace Cert.KernelIdeal.RefValue

open Cert.KernelIdeal Cert.KernelIdeal.Gen Idealize.ShloMosaic Idealize.ShloMosaic.TcCoe Idealize.SL.Sem

variable {F : FTy → Type} [FloatOps F]

/-- The left 128 columns of one product: the vectors against the codes of the first of two blocks. -/
def accL (x : Vec F S48x1024 .bf16) (w0 w1 : Vec F S1x256x128 .i32) : FVec F S48x128 .f32 := k0_pay4 x w0 w1
/-- The right 128 columns of one product: the vectors against the codes of the second of two blocks. -/
def accR (x : Vec F S48x1024 .bf16) (w0 w1 : Vec F S1x256x128 .i32) : FVec F S48x128 .f32 := k0_pay5 x w0 w1

/-- One stored tile: the four accumulators of a window permuted back by one row of indices and scaled. -/
def rowBlk (a0 a1 a2 a3 : FVec F S48x128 .f32) (inv : Vec F S1x128 .i32) (sc : Vec F S1x128 .f32) : FVec F S48x128 .bf16 :=
  k0_pay23 (k0_pay22 a0 a1 a2 a3 (k0_pay18 inv) (k0_pay19 inv) (k0_pay20 inv) k0_pay21 sc)

/-- A tile of the first window of a block. -/
def tileA (x0 : Vec F S48x1024 .bf16) (x1 : Vec F S8x256x128 .i32) (inv : Vec F S1x128 .i32) (sc : Vec F S1x128 .f32) :
    FVec F S48x128 .bf16 :=
  rowBlk (accL (View.ld x0 r0_0) (View.ld x1 r0_1) (View.ld x1 r0_2)) (accR (View.ld x0 r0_0) (View.ld x1 r0_1) (View.ld x1 r0_2))
    (accL (View.ld x0 r0_0) (View.ld x1 r0_3) (View.ld x1 r0_4)) (accR (View.ld x0 r0_0) (View.ld x1 r0_3) (View.ld x1 r0_4)) inv sc
/-- A tile of the second window of a block. -/
def tileB (x0 : Vec F S48x1024 .bf16) (x1 : Vec F S8x256x128 .i32) (inv : Vec F S1x128 .i32) (sc : Vec F S1x128 .f32) :
    FVec F S48x128 .bf16 :=
  rowBlk (accL (View.ld x0 r0_0) (View.ld x1 r0_13) (View.ld x1 r0_14)) (accR (View.ld x0 r0_0) (View.ld x1 r0_13) (View.ld x1 r0_14))
    (accL (View.ld x0 r0_0) (View.ld x1 r0_15) (View.ld x1 r0_16)) (accR (View.ld x0 r0_0) (View.ld x1 r0_15) (View.ld x1 r0_16)) inv sc

/-- What a step stores is eight tiles of this one form. -/
theorem out_eq (x0 : Vec F S48x1024 .bf16) (x1 : Vec F S8x256x128 .i32) (x2 : Vec F S8x128 .i32) (x3 : Vec F S8x128 .f32) :
    out0_4 x0 x1 x2 x3 = View.canon
      [⟨r0_24, tileB x0 x1 (View.ld x2 r0_23) (View.ld x3 r0_23)⟩,
       ⟨r0_22, tileB x0 x1 (View.ld x2 r0_21) (View.ld x3 r0_21)⟩,
       ⟨r0_20, tileB x0 x1 (View.ld x2 r0_19) (View.ld x3 r0_19)⟩,
       ⟨r0_18, tileB x0 x1 (View.ld x2 r0_17) (View.ld x3 r0_17)⟩,
       ⟨r0_12, tileA x0 x1 (View.ld x2 r0_11) (View.ld x3 r0_11)⟩,
       ⟨r0_10, tileA x0 x1 (View.ld x2 r0_9) (View.ld x3 r0_9)⟩,
       ⟨r0_8, tileA x0 x1 (View.ld x2 r0_7) (View.ld x3 r0_7)⟩,
       ⟨r0_6, tileA x0 x1 (View.ld x2 r0_5) (View.ld x3 r0_5)⟩] := rfl

end Cert.KernelIdeal.RefValue

end
-- ==== Proof.Tile.lean ====
/-
  One tile read at an index over the reals: which accumulator column an index word names, and an accumulator as a sum of
  products of the vectors' entries with signed bytes of the packed words.
-/
module

public import proofs.«01_k».proof.Proof.Block
public import Idealize.ShloMosaic.Lib.BitcastPair
public import Idealize.ShloMosaic.PureOps.Ideal

@[expose] public section

noncomputable section

namespace Cert.KernelIdeal.RefValue

open Cert.KernelIdeal Cert.KernelIdeal.Gen Idealize.ShloMosaic Idealize.ShloMosaic.TcCoe Idealize.SL.Sem

/-! ## The index words -/

/-- The lane an index word names, as the kernel computes it: its low seven bits, wrapped if negative. -/
def laneOf (v : BitVec 32) : BitVec 32 :=
  Scalar.select (IntOp.cmpi CmpIPredicate.slt (IntOp.andi v 127#32) 0#32)
    (IntOp.addi (IntOp.andi v 127#32) 128#32) (IntOp.andi v 127#32)

/-- The accumulator an index word names, as the kernel computes it: the word floor-divided by 128. -/
def blockOf (v : BitVec 32) : BitVec 32 :=
  Scalar.select
    (IntOp.andi
      (IntOp.cmpi CmpIPredicate.ne
        (IntOp.subi (BitVec.setWidth 32 (IntOp.cmpi CmpIPredicate.sgt v 0#32))
          (BitVec.setWidth 32 (IntOp.cmpi CmpIPredicate.slt v 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector v 128#32) 0#32))
    (IntOp.subi (IntOp.divsi ArithUnit.vector v 128#32) 1#32)
    (IntOp.divsi ArithUnit.vector v 128#32)

theorem word_facts : ∀ n : Fin 512, laneOf (BitVec.ofNat 32 n.val) = BitVec.ofNat 32 (n.val % 128)
    ∧ blockOf (BitVec.ofNat 32 n.val) = BitVec.ofNat 32 (n.val / 128) := by decide +kernel

theorem laneOf_eq (v : BitVec 32) (h : v.toNat < 512) : laneOf v = BitVec.ofNat 32 (v.toNat % 128) := by
  have := (word_facts ⟨v.toNat, h⟩).1
  rwa [show BitVec.ofNat 32 (⟨v.toNat, h⟩ : Fin 512).val = v from BitVec.eq_of_toNat_eq (by simp)] at this

theorem blockOf_eq (v : BitVec 32) (h : v.toNat < 512) : blockOf v = BitVec.ofNat 32 (v.toNat / 128) := by
  have := (word_facts ⟨v.toNat, h⟩).2
  rwa [show BitVec.ofNat 32 (⟨v.toNat, h⟩ : Fin 512).val = v from BitVec.eq_of_toNat_eq (by simp)] at this

/-- Choosing one of four by a number below four. -/
def pick {α : Type} (n : Nat) (a0 a1 a2 a3 : α) : α := if n = 3 then a3 else if n = 2 then a2 else if n = 1 then a1 else a0

/-- The chain of three selects on the block number is `pick`. -/
theorem select_chain {α : Type} (n : Nat) (hn : n < 4) (a0 a1 a2 a3 : α) :
    Scalar.select (IntOp.cmpi CmpIPredicate.eq (BitVec.ofNat 32 n) 3#32) a3
      (Scalar.select (IntOp.cmpi CmpIPredicate.eq (BitVec.ofNat 32 n) 2#32) a2
        (Scalar.select (IntOp.cmpi CmpIPredicate.eq (BitVec.ofNat 32 n) 1#32) a1 a0)) = pick n a0 a1 a2 a3 := by
  rcases (by omega : n = 0 ∨ n = 1 ∨ n = 2 ∨ n = 3) with rfl | rfl | rfl | rfl <;> rfl

/-- A tile at an index: the named accumulator's entry times the scale. -/
theorem rowBlk_apply (a0 a1 a2 a3 : FVec Ideal S48x128 .f32) (inv : Vec Ideal S1x128 .i32) (sc : Vec Ideal S1x128 .f32)
    (b : Fin 48) (l : Fin 128) (h : (inv (ix2 0 l)).toNat < 512) :
    rowBlk a0 a1 a2 a3 inv sc (ix2 b l)
      = pick ((inv (ix2 0 l)).toNat / 128) a0 a1 a2 a3
          (ix2 b ⟨(inv (ix2 0 l)).toNat % 128, Nat.mod_lt _ (by decide)⟩) * sc (ix2 0 l) := by
  have e : ∀ p, (ix2 b ⟨(laneOf (inv (ix2 0 l))).toNat % 128, p⟩ : S48x128.Idx)
      = ix2 b ⟨(inv (ix2 0 l)).toNat % 128, Nat.mod_lt _ (by decide)⟩ := fun p => by
    congr 1; apply Fin.ext; show (laneOf (inv (ix2 0 l))).toNat % 128 = _
    rw [laneOf_eq _ h, BitVec.toNat_ofNat]
    show _ = (inv (ix2 0 l)).toNat % 128
    rw [Nat.mod_eq_of_lt (show (inv (ix2 0 l)).toNat % 128 < 2 ^ 32 by omega), Nat.mod_mod]
  have lhs : rowBlk a0 a1 a2 a3 inv sc (ix2 b l)
      = Scalar.select (IntOp.cmpi CmpIPredicate.eq (blockOf (inv (ix2 0 l))) 3#32)
          (a3 (ix2 b ⟨(laneOf (inv (ix2 0 l))).toNat % 128, Nat.mod_lt _ (by decide)⟩))
        (Scalar.select (IntOp.cmpi CmpIPredicate.eq (blockOf (inv (ix2 0 l))) 2#32)
          (a2 (ix2 b ⟨(laneOf (inv (ix2 0 l))).toNat % 128, Nat.mod_lt _ (by decide)⟩))
        (Scalar.select (IntOp.cmpi CmpIPredicate.eq (blockOf (inv (ix2 0 l))) 1#32)
          (a1 (ix2 b ⟨(laneOf (inv (ix2 0 l))).toNat % 128, Nat.mod_lt _ (by decide)⟩))
          (a0 (ix2 b ⟨(laneOf (inv (ix2 0 l))).toNat % 128, Nat.mod_lt _ (by decide)⟩)))) * sc (ix2 0 l) := by
    unfold rowBlk k0_pay23 k0_pay22 k0_pay18 k0_pay19 k0_pay20 k0_pay21 k0_pay17
    pointwise
    rfl
  rw [lhs, e, blockOf_eq _ h, select_chain _ (by omega)]
  congr 1
  unfold pick
  split_ifs <;> rfl

/-! ## The accumulators -/

/-- Byte `q` of a word, lowest first, read as a signed integer. -/
def byteVal (w : BitVec 32) (q : Nat) : EReal := (((w.extractLsb' (8 * q) 8).toInt : ℝ) : EReal)

/-- Words of 32 bits read at eight bits: result row `4r + q` of a column is byte `q` of source row `r`. -/
theorem bitcast_codes (y : S256x256.Idx → BitVec 32) (k : Fin 1024) (c : Fin 256) :
    bitcast S1024x256 8 y bitcasts_S256x256_w32_S1024x256_w8 (ix2 k c)
      = (y (ix2 ⟨k.val / 4, by omega⟩ c)).extractLsb' (8 * (k.val % 4)) 8 := by
  apply BitVec.eq_of_getLsbD_eq
  intro i hi
  rw [bitcast_getLsbD _ _ _ i hi (by decide), BitVec.getLsbD_extractLsb']
  have er : S1024x256.row (ix2 k c) = k.val := rfl
  have ei : ∀ hp, (bitcasts_S256x256_w32_S1024x256_w8).srcIdx (ix2 k c) ((S1024x256.row (ix2 k c) * 8 + i) / 32) hp
      = ix2 ⟨k.val / 4, by omega⟩ c := fun hp => by
    funext a; apply Fin.ext
    match a with
    | ⟨0, _⟩ =>
      rw [Shape.Bitcasts.srcIdx_row _ _ _ _ _ rfl, er]
      show (k.val * 8 + i) / 32 = k.val / 4
      omega
    | ⟨1, _⟩ =>
      rw [Shape.Bitcasts.srcIdx_other _ _ _ _ _ (show ¬(1 + 2 = 2) by decide)]
      rfl
  rw [ei, er, show (k.val * 8 + i) % 32 = 8 * (k.val % 4) + i by omega]
  simp [hi]

/-- The sum a column of an accumulator holds: the vectors' entries times the signed bytes of one column of words. -/
def colSum (x : S48x1024.Idx → EReal) (w : Fin 256 → BitVec 32) (b : Fin 48) : EReal :=
  ∑ k : Fin 1024, x (ix2 b k) * byteVal (w ⟨k.val / 4, by omega⟩) (k.val % 4)

theorem accL_apply (x : Vec Ideal S48x1024 .bf16) (w0 w1 : Vec Ideal S1x256x128 .i32) (b : Fin 48) (l : Fin 128) :
    accL x w0 w1 (ix2 b l) = colSum x (fun r => w0 (ix3 0 r l)) b := by
  unfold accL k0_pay4 k0_pay3 k0_pay2 colSum
  pointwise
  refine Finset.sum_congr rfl fun k _ => ?_
  congr 1
  rw [bitcast_codes]
  pointwise
  rfl

theorem accR_apply (x : Vec Ideal S48x1024 .bf16) (w0 w1 : Vec Ideal S1x256x128 .i32) (b : Fin 48) (l : Fin 128) :
    accR x w0 w1 (ix2 b l) = colSum x (fun r => w1 (ix3 0 r l)) b := by
  unfold accR k0_pay5 k0_pay3 k0_pay2 colSum
  pointwise
  refine Finset.sum_congr rfl fun k _ => ?_
  congr 1
  rw [bitcast_codes]
  pointwise
  rfl

end Cert.KernelIdeal.RefValue

end
-- ==== Proof.BlockValue.lean ====
/-
  What one step leaves in its output block, as one function of the step's input blocks, when every index word is below
  512.
-/
module

public import proofs.«01_k».proof.Proof.Tile

@[expose] public section

noncomputable section

namespace Cert.KernelIdeal.RefValue

open Cert.KernelIdeal Cert.KernelIdeal.Gen Idealize.ShloMosaic Idealize.ShloMosaic.TcCoe Idealize.SL.Sem

/-- A slab of the packed words, loaded. -/
theorem ld_slab (x1 : Vec Ideal S8x256x128 .i32) (k : Fin 8) (inb : ∀ a, (![k.val, 0, 0] : Fin 3 → Nat) a + S1x256x128.size a ≤ S8x256x128.size a)
    (r : Fin 256) (l : Fin 128) :
    View.ld x1 (Rect.unit (s := S8x256x128) ![k.val, 0, 0] S1x256x128.size inb) (ix3 0 r l) = x1 (ix3 k r l) := by
  show x1 _ = x1 _
  congr 1
  funext a; apply Fin.ext
  match a with
  | ⟨0, _⟩ => show k.val + 1 * 0 = k.val; omega
  | ⟨1, _⟩ => show 0 + 1 * r.val = r.val; omega
  | ⟨2, _⟩ => show 0 + 1 * l.val = l.val; omega

/-- A row of the index or scale block, loaded. -/
theorem ld_row {e : EltTy} (x : Vec Ideal S8x128 e) (g : Fin 8) (inb : ∀ a, (![g.val, 0] : Fin 2 → Nat) a + S1x128.size a ≤ S8x128.size a)
    (l : Fin 128) : View.ld x (Rect.unit (s := S8x128) ![g.val, 0] S1x128.size inb) (ix2 0 l) = x (ix2 g l) := by
  show x _ = x _
  congr 1
  funext a; apply Fin.ext
  match a with
  | ⟨0, _⟩ => show g.val + 1 * 0 = g.val; omega
  | ⟨1, _⟩ => show 0 + 1 * l.val = l.val; omega

theorem ld_whole (x0 : Vec Ideal S48x1024 .bf16) : View.ld x0 r0_0 = x0 :=
  View.ld_unit_zero (funext fun a => by fin_cases a <;> rfl) _ x0

/-- The block a word names in the window that starts at slab `4 * p`. -/
def slab (p : Fin 2) (v : Nat) : Fin 8 := ⟨4 * p.val + v / 128 % 4, by omega⟩

theorem pick_slab (x0 : Vec Ideal S48x1024 .bf16) (x1 : Vec Ideal S8x256x128 .i32) (p : Fin 2) (v : Nat) (hv : v < 512)
    (b : Fin 48) (l : Fin 128) (a0 a1 a2 a3 : FVec Ideal S48x128 .f32)
    (h0 : a0 (ix2 b l) = colSum x0 (fun r => x1 (ix3 (slab p 0) r l)) b)
    (h1 : a1 (ix2 b l) = colSum x0 (fun r => x1 (ix3 (slab p 128) r l)) b)
    (h2 : a2 (ix2 b l) = colSum x0 (fun r => x1 (ix3 (slab p 256) r l)) b)
    (h3 : a3 (ix2 b l) = colSum x0 (fun r => x1 (ix3 (slab p 384) r l)) b) :
    pick (v / 128) a0 a1 a2 a3 (ix2 b l) = colSum x0 (fun r => x1 (ix3 (slab p v) r l)) b := by
  rcases (by omega : v / 128 = 0 ∨ v / 128 = 1 ∨ v / 128 = 2 ∨ v / 128 = 3) with e | e | e | e
  · rw [e, show slab p v = slab p 0 from Fin.ext (by show 4 * p.val + v / 128 % 4 = _; rw [e]; rfl)]; exact h0
  · rw [e, show slab p v = slab p 128 from Fin.ext (by show 4 * p.val + v / 128 % 4 = _; rw [e]; rfl)]; exact h1
  · rw [e, show slab p v = slab p 256 from Fin.ext (by show 4 * p.val + v / 128 % 4 = _; rw [e]; rfl)]; exact h2
  · rw [e, show slab p v = slab p 384 from Fin.ext (by show 4 * p.val + v / 128 % 4 = _; rw [e]; rfl)]; exact h3

theorem tileA_apply (x0 : Vec Ideal S48x1024 .bf16) (x1 : Vec Ideal S8x256x128 .i32) (inv : Vec Ideal S1x128 .i32)
    (sc : Vec Ideal S1x128 .f32) (b : Fin 48) (l : Fin 128) (h : (inv (ix2 0 l)).toNat < 512) :
    tileA x0 x1 inv sc (ix2 b l)
      = colSum x0 (fun r => x1 (ix3 (slab 0 (inv (ix2 0 l)).toNat) r ⟨(inv (ix2 0 l)).toNat % 128, Nat.mod_lt _ (by decide)⟩)) b
        * sc (ix2 0 l) := by
  unfold tileA
  rw [rowBlk_apply _ _ _ _ _ _ _ _ h, ld_whole]
  congr 1
  refine pick_slab x0 x1 0 _ h b _ _ _ _ _ ?_ ?_ ?_ ?_
  · rw [accL_apply]; congr 1; funext r; exact ld_slab x1 0 _ r _
  · rw [accR_apply]; congr 1; funext r; exact ld_slab x1 1 _ r _
  · rw [accL_apply]; congr 1; funext r; exact ld_slab x1 2 _ r _
  · rw [accR_apply]; congr 1; funext r; exact ld_slab x1 3 _ r _

theorem tileB_apply (x0 : Vec Ideal S48x1024 .bf16) (x1 : Vec Ideal S8x256x128 .i32) (inv : Vec Ideal S1x128 .i32)
    (sc : Vec Ideal S1x128 .f32) (b : Fin 48) (l : Fin 128) (h : (inv (ix2 0 l)).toNat < 512) :
    tileB x0 x1 inv sc (ix2 b l)
      = colSum x0 (fun r => x1 (ix3 (slab 1 (inv (ix2 0 l)).toNat) r ⟨(inv (ix2 0 l)).toNat % 128, Nat.mod_lt _ (by decide)⟩)) b
        * sc (ix2 0 l) := by
  unfold tileB
  rw [rowBlk_apply _ _ _ _ _ _ _ _ h, ld_whole]
  congr 1
  refine pick_slab x0 x1 1 _ h b _ _ _ _ _ ?_ ?_ ?_ ?_
  · rw [accL_apply]; congr 1; funext r; exact ld_slab x1 4 _ r _
  · rw [accR_apply]; congr 1; funext r; exact ld_slab x1 5 _ r _
  · rw [accL_apply]; congr 1; funext r; exact ld_slab x1 6 _ r _
  · rw [accR_apply]; congr 1; funext r; exact ld_slab x1 7 _ r _

/-- One entry of a step's output block, of its row of vectors, its row of index words, and its lane. -/
def entry (x0 : Vec Ideal S48x1024 .bf16) (x1 : Vec Ideal S8x256x128 .i32) (x2 : Vec Ideal S8x128 .i32)
    (x3 : Vec Ideal S8x128 .f32) (b : Fin 48) (g : Fin 8) (l : Fin 128) : EReal :=
  colSum x0 (fun r => x1 (ix3 (slab ⟨g.val / 4, by omega⟩ (x2 (ix2 g l)).toNat) r
    ⟨(x2 (ix2 g l)).toNat % 128, Nat.mod_lt _ (by decide)⟩)) b * x3 (ix2 g l)

/-- A step's output block. -/
def blkG (x0 : Vec Ideal S48x1024 .bf16) (x1 : Vec Ideal S8x256x128 .i32) (x2 : Vec Ideal S8x128 .i32)
    (x3 : Vec Ideal S8x128 .f32) : Vec Ideal S48x1024 .bf16 := fun y =>
  entry x0 x1 x2 x3 ⟨(y 0).val, (y 0).isLt⟩ ⟨(y 1).val / 128, by have h : (y 1).val < 1024 := (y 1).isLt; omega⟩
    ⟨(y 1).val % 128, Nat.mod_lt _ (by decide)⟩

variable (x0 : Vec Ideal S48x1024 .bf16) (x1 : Vec Ideal S8x256x128 .i32) (x2 : Vec Ideal S8x128 .i32)
  (x3 : Vec Ideal S8x128 .f32)

/-- The tile at row `g` of the index block, at its place in the output block. -/
theorem piece_eq (g : Fin 8) (off : Nat) (ho : off = 128 * g.val) (inb : ∀ a, (![0, off] : Fin 2 → Nat) a + S48x128.size a ≤ S48x1024.size a)
    (T : FVec Ideal S48x128 .bf16) (hT : ∀ b l, T (ix2 b l) = entry x0 x1 x2 x3 b g l)
    (x : (Rect.unit (s := S48x1024) ![0, off] S48x128.size inb).shape.Idx) :
    T x = blkG x0 x1 x2 x3 ((Rect.unit (s := S48x1024) ![0, off] S48x128.size inb).emb x) := by
  have hx0 : (x 0).val < 48 := (x 0).isLt
  have hx1 : (x 1).val < 128 := (x 1).isLt
  have ex : x = (ix2 ⟨(x 0).val, hx0⟩ ⟨(x 1).val, hx1⟩ : S48x128.Idx) := by
    funext a; match a with
    | ⟨0, _⟩ => rfl
    | ⟨1, _⟩ => rfl
  have e1 : (((Rect.unit (s := S48x1024) ![0, off] S48x128.size inb).emb x) 1).val = off + (x 1).val := by
    show off + 1 * (x 1).val = _; omega
  have e0 : (((Rect.unit (s := S48x1024) ![0, off] S48x128.size inb).emb x) 0).val = (x 0).val := by
    show 0 + 1 * (x 0).val = _; omega
  rw [ex, hT, ← ex]
  unfold blkG
  congr 1
  · exact Fin.ext e0.symm
  · apply Fin.ext; show g.val = _ / 128; rw [e1]; omega
  · apply Fin.ext; show (x 1).val = _ % 128; rw [e1]; omega

/-- A tile of the first window, at a row of the index block and of the scale block. -/
theorem entryA (hx : ∀ g l, (x2 (ix2 g l)).toNat < 512) (g : Fin 8) (hg : g.val / 4 = 0) (inv : Vec Ideal S1x128 .i32)
    (sc : Vec Ideal S1x128 .f32) (hi : ∀ l, inv (ix2 0 l) = x2 (ix2 g l)) (hs : ∀ l, sc (ix2 0 l) = x3 (ix2 g l))
    (b : Fin 48) (l : Fin 128) : tileA x0 x1 inv sc (ix2 b l) = entry x0 x1 x2 x3 b g l := by
  rw [tileA_apply x0 x1 inv sc b l (by rw [hi]; exact hx g l)]
  unfold entry
  simp only [hi, hs]
  rw [show (⟨g.val / 4, by omega⟩ : Fin 2) = 0 from Fin.ext hg]

/-- A tile of the second window, at a row of the index block and of the scale block. -/
theorem entryB (hx : ∀ g l, (x2 (ix2 g l)).toNat < 512) (g : Fin 8) (hg : g.val / 4 = 1) (inv : Vec Ideal S1x128 .i32)
    (sc : Vec Ideal S1x128 .f32) (hi : ∀ l, inv (ix2 0 l) = x2 (ix2 g l)) (hs : ∀ l, sc (ix2 0 l) = x3 (ix2 g l))
    (b : Fin 48) (l : Fin 128) : tileB x0 x1 inv sc (ix2 b l) = entry x0 x1 x2 x3 b g l := by
  rw [tileB_apply x0 x1 inv sc b l (by rw [hi]; exact hx g l)]
  unfold entry
  simp only [hi, hs]
  rw [show (⟨g.val / 4, by omega⟩ : Fin 2) = 1 from Fin.ext hg]

/-- An index whose lane is among a tile's 128 lanes is in the tile. -/
theorem mem_tile (y : S48x1024.Idx) (off : Nat) (inb : ∀ a, (![0, off] : Fin 2 → Nat) a + S48x128.size a ≤ S48x1024.size a)
    (h : off ≤ (y 1).val) (h' : (y 1).val < off + 128) : y ∈ (Rect.unit (s := S48x1024) ![0, off] S48x128.size inb).set := by
  have h0 : (y 0).val < 48 := (y 0).isLt
  rw [Rect.mem_set_unit]
  intro a
  match a with
  | ⟨0, _⟩ => exact ⟨Nat.zero_le _, by show (y 0).val < 0 + 48; omega⟩
  | ⟨1, _⟩ => exact ⟨h, h'⟩

/-- The eight tiles cover the output block, whatever they hold. -/
theorem tiles_cover (T7 T6 T5 T4 T3 T2 T1 T0 : FVec Ideal S48x128 .bf16) (y : S48x1024.Idx) :
    ∃ p ∈ ([⟨r0_24, T7⟩, ⟨r0_22, T6⟩, ⟨r0_20, T5⟩, ⟨r0_18, T4⟩, ⟨r0_12, T3⟩, ⟨r0_10, T2⟩, ⟨r0_8, T1⟩, ⟨r0_6, T0⟩] :
      List (View.Piece (Elt Ideal) S48x1024 .bf16)), y ∈ p.1.set := by
  have h1 : (y 1).val < 1024 := (y 1).isLt
  simp only [List.exists_mem_cons_iff]
  by_cases c7 : 896 ≤ (y 1).val
  · left; exact mem_tile y 896 inb_S48x1024_S48x128_0_896 c7 (by omega)
  by_cases c6 : 768 ≤ (y 1).val
  · right; left; exact mem_tile y 768 inb_S48x1024_S48x128_0_768 c6 (by omega)
  by_cases c5 : 640 ≤ (y 1).val
  · right; right; left; exact mem_tile y 640 inb_S48x1024_S48x128_0_640 c5 (by omega)
  by_cases c4 : 512 ≤ (y 1).val
  · right; right; right; left; exact mem_tile y 512 inb_S48x1024_S48x128_0_512 c4 (by omega)
  by_cases c3 : 384 ≤ (y 1).val
  · right; right; right; right; left; exact mem_tile y 384 inb_S48x1024_S48x128_0_384 c3 (by omega)
  by_cases c2 : 256 ≤ (y 1).val
  · right; right; right; right; right; left; exact mem_tile y 256 inb_S48x1024_S48x128_0_256 c2 (by omega)
  by_cases c1 : 128 ≤ (y 1).val
  · right; right; right; right; right; right; left; exact mem_tile y 128 inb_S48x1024_S48x128_0_128 c1 (by omega)
  · right; right; right; right; right; right; right; left
    exact mem_tile y 0 inb_S48x1024_S48x128_0_0 (by omega) (by omega)

/-- A step's stores leave `blkG` in the output block. -/
theorem out_value (hx : ∀ g l, (x2 (ix2 g l)).toNat < 512) : out0_4 x0 x1 x2 x3 = blkG x0 x1 x2 x3 := by
  rw [out_eq]
  funext y
  refine View.canon_apply_of_pieces (blkG x0 x1 x2 x3) _ ?_ y (tiles_cover _ _ _ _ _ _ _ _ y)
  intro p hp
  simp only [List.mem_cons, List.not_mem_nil, or_false] at hp
  rcases hp with rfl | rfl | rfl | rfl | rfl | rfl | rfl | rfl
  · exact piece_eq x0 x1 x2 x3 7 896 rfl inb_S48x1024_S48x128_0_896 _ (entryB x0 x1 x2 x3 hx 7 rfl _ _ (ld_row x2 7 _) (ld_row x3 7 _))
  · exact piece_eq x0 x1 x2 x3 6 768 rfl inb_S48x1024_S48x128_0_768 _ (entryB x0 x1 x2 x3 hx 6 rfl _ _ (ld_row x2 6 _) (ld_row x3 6 _))
  · exact piece_eq x0 x1 x2 x3 5 640 rfl inb_S48x1024_S48x128_0_640 _ (entryB x0 x1 x2 x3 hx 5 rfl _ _ (ld_row x2 5 _) (ld_row x3 5 _))
  · exact piece_eq x0 x1 x2 x3 4 512 rfl inb_S48x1024_S48x128_0_512 _ (entryB x0 x1 x2 x3 hx 4 rfl _ _ (ld_row x2 4 _) (ld_row x3 4 _))
  · exact piece_eq x0 x1 x2 x3 3 384 rfl inb_S48x1024_S48x128_0_384 _ (entryA x0 x1 x2 x3 hx 3 rfl _ _ (ld_row x2 3 _) (ld_row x3 3 _))
  · exact piece_eq x0 x1 x2 x3 2 256 rfl inb_S48x1024_S48x128_0_256 _ (entryA x0 x1 x2 x3 hx 2 rfl _ _ (ld_row x2 2 _) (ld_row x3 2 _))
  · exact piece_eq x0 x1 x2 x3 1 128 rfl inb_S48x1024_S48x128_0_128 _ (entryA x0 x1 x2 x3 hx 1 rfl _ _ (ld_row x2 1 _) (ld_row x3 1 _))
  · exact piece_eq x0 x1 x2 x3 0 0 rfl inb_S48x1024_S48x128_0_0 _ (entryA x0 x1 x2 x3 hx 0 rfl _ _ (ld_row x2 0 _) (ld_row x3 0 _))

end Cert.KernelIdeal.RefValue

end
-- ==== Proof.Array.lean ====
/-
  The product kernel's whole result array as a function of its four arguments: every step's output block is a block of
  one array, the blocks cover it, and the host operation after the call transposes it.
-/
module

public import proofs.«01_k».proof.Proof.BlockValue
public import Idealize.ShloMosaic.Lib.Pipeline.Value

@[expose] public section

noncomputable section

namespace Cert.KernelIdeal.RefValue

open Cert.KernelIdeal Cert.KernelIdeal.Gen Idealize.ShloMosaic Idealize.ShloMosaic.TcCoe Idealize.SL.Sem
open Idealize.ShloMosaic.Pipeline (Dat)

/-- The slab of packed words an index word names, for row `g` of the index array. -/
def slabOf (g : Fin 256) (v : Nat) : Fin 256 := ⟨4 * (g.val / 4) + v / 128 % 4, by omega⟩

/-- One entry of the result, of its row of vectors, its row of index words, and its lane. -/
def entryOf (x0 : Vec Ideal S48x1024 .bf16) (x1 : Vec Ideal S256x256x128 .i32) (x2 : Vec Ideal S256x128 .i32)
    (x3 : Vec Ideal S256x128 .f32) (b : Fin 48) (g : Fin 256) (l : Fin 128) : EReal :=
  colSum x0 (fun r => x1 (ix3 (slabOf g (x2 (ix2 g l)).toNat) r
    ⟨(x2 (ix2 g l)).toNat % 128, Nat.mod_lt _ (by decide)⟩)) b * x3 (ix2 g l)

/-- The whole result, of the four arrays the steps read. -/
def arrG (x0 : Vec Ideal S48x1024 .bf16) (x1 : Vec Ideal S256x256x128 .i32) (x2 : Vec Ideal S256x128 .i32)
    (x3 : Vec Ideal S256x128 .f32) : Vec Ideal S48x32768 .bf16 := fun y =>
  entryOf x0 x1 x2 x3 ⟨(y 0).val, (y 0).isLt⟩ ⟨(y 1).val / 128, by have h : (y 1).val < 32768 := (y 1).isLt; omega⟩
    ⟨(y 1).val % 128, Nat.mod_lt _ (by decide)⟩

variable (m : (ℓ : Loc nD τ sig) → Buf (Elt Ideal) ℓ) (ρ : Dev nD → PrngReg)

/-- The block each window stages at a step. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val)

theorem lt_steps (t : Fin cfg0.N) : t.val < 32 := by
  have h : t.val < cfg0.N := t.isLt
  have e : cfg0.N = 32 := N_0
  omega

/-- The vectors are staged whole at every step. -/
theorem iblk0_eq (c : Dev nD) (t : Fin cfg0.N) : iblk m c 0 t = V m c main_v0 := by
  obtain ⟨e0, e1, _⟩ := idx_facts t
  funext j
  show V m c main_v0 (((cfg0.win 0).blk t).view.emb j) = V m c main_v0 j
  congr 1
  funext a; apply Fin.ext
  match a with
  | ⟨0, _⟩ => show win0_0.index t (0 : Fin 2) * 48 + 1 * (j 0).val = (j 0).val; omega
  | ⟨1, _⟩ => show win0_0.index t (1 : Fin 2) * 1024 + 1 * (j 1).val = (j 1).val; omega

/-- A step's slabs of packed words. -/
theorem iblk1_apply (c : Dev nD) (t : Fin cfg0.N) (g : Fin 8) (r : Fin 256) (l : Fin 128) :
    iblk m c 1 t (ix3 g r l) = V m c main_v2 (ix3 ⟨8 * t.val + g.val, by have := lt_steps t; omega⟩ r l) := by
  obtain ⟨_, _, e0, e1, e2, _⟩ := idx_facts t
  show V m c main_v2 (((cfg0.win 1).blk t).view.emb (ix3 g r l)) = V m c main_v2 _
  congr 1
  funext a; apply Fin.ext
  match a with
  | ⟨0, _⟩ => show win0_1.index t (0 : Fin 3) * 8 + 1 * g.val = 8 * t.val + g.val; omega
  | ⟨1, _⟩ => show win0_1.index t (1 : Fin 3) * 256 + 1 * r.val = r.val; omega
  | ⟨2, _⟩ => show win0_1.index t (2 : Fin 3) * 128 + 1 * l.val = l.val; omega

/-- A step's rows of index words. -/
theorem iblk2_apply (c : Dev nD) (t : Fin cfg0.N) (g : Fin 8) (l : Fin 128) :
    iblk m c 2 t (ix2 g l) = V m c main_v3 (ix2 ⟨8 * t.val + g.val, by have := lt_steps t; omega⟩ l) := by
  obtain ⟨_, _, _, _, _, e0, e1, _⟩ := idx_facts t
  show V m c main_v3 (((cfg0.win 2).blk t).view.emb (ix2 g l)) = V m c main_v3 _
  congr 1
  funext a; apply Fin.ext
  match a with
  | ⟨0, _⟩ => show win0_2.index t (0 : Fin 2) * 8 + 1 * g.val = 8 * t.val + g.val; omega
  | ⟨1, _⟩ => show win0_2.index t (1 : Fin 2) * 128 + 1 * l.val = l.val; omega

/-- A step's rows of scales. -/
theorem iblk3_apply (c : Dev nD) (t : Fin cfg0.N) (g : Fin 8) (l : Fin 128) :
    iblk m c 3 t (ix2 g l) = V m c main_v1 (ix2 ⟨8 * t.val + g.val, by have := lt_steps t; omega⟩ l) := by
  obtain ⟨_, _, _, _, _, _, _, e0, e1, _⟩ := idx_facts t
  show V m c main_v1 (((cfg0.win 3).blk t).view.emb (ix2 g l)) = V m c main_v1 _
  congr 1
  funext a; apply Fin.ext
  match a with
  | ⟨0, _⟩ => show win0_3.index t (0 : Fin 2) * 8 + 1 * g.val = 8 * t.val + g.val; omega
  | ⟨1, _⟩ => show win0_3.index t (1 : Fin 2) * 128 + 1 * l.val = l.val; omega

/-- What a step writes back is the body's result of the input blocks at the step. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What a step writes back is its block of the one array. -/
theorem flushed_eq (c : Dev nD) (hx : ∀ g l, (V m c main_v3 (ix2 g l) : BitVec 32).toNat < 512) (t : Fin cfg0.N) :
    (dats m 0 c).flushed 4 t = ((cfg0.win 4).blk t).view.read (Elt Ideal)
      (arrG (V m c main_v0) (V m c main_v2) (V m c main_v3) (V m c main_v1)) := by
  rw [flushed4, out_value (iblk m c 0 t) (iblk m c 1 t) (iblk m c 2 t) (iblk m c 3 t)
    (fun g l => by rw [iblk2_apply]; exact hx _ l)]
  obtain ⟨_, _, _, _, _, _, _, _, _, f0, f1⟩ := idx_facts t
  have ht := lt_steps t
  funext y
  have hy0 : (y 0).val < 48 := (y 0).isLt
  have hy1 : (y 1).val < 1024 := (y 1).isLt
  show blkG (iblk m c 0 t) (iblk m c 1 t) (iblk m c 2 t) (iblk m c 3 t) y
    = arrG (V m c main_v0) (V m c main_v2) (V m c main_v3) (V m c main_v1) (((cfg0.win 4).blk t).view.emb y)
  have e0 : ((((cfg0.win 4).blk t).view.emb y) 0).val = (y 0).val := by
    show win0_4.index t (0 : Fin 2) * 48 + 1 * (y 0).val = (y 0).val; omega
  have e1 : ((((cfg0.win 4).blk t).view.emb y) 1).val = 1024 * t.val + (y 1).val := by
    show win0_4.index t (1 : Fin 2) * 1024 + 1 * (y 1).val = 1024 * t.val + (y 1).val; omega
  unfold blkG arrG entry entryOf
  simp only [iblk0_eq, iblk1_apply, iblk2_apply, iblk3_apply, e0, e1]
  have eg : (1024 * t.val + (y 1).val) / 128 = 8 * t.val + (y 1).val / 128 := by omega
  have el : (1024 * t.val + (y 1).val) % 128 = (y 1).val % 128 := by omega
  have es : ∀ v : Nat, (⟨8 * t.val + (slab ⟨(y 1).val / 128 / 4, by omega⟩ v).val, by
      have := (slab ⟨(y 1).val / 128 / 4, by omega⟩ v).isLt; omega⟩ : Fin 256)
      = slabOf ⟨8 * t.val + (y 1).val / 128, by omega⟩ v := fun v => Fin.ext (by
    show 8 * t.val + (4 * ((y 1).val / 128 / 4) + v / 128 % 4)
      = 4 * ((8 * t.val + (y 1).val / 128) / 4) + v / 128 % 4
    omega)
  simp only [eg, el, es]

/-- The steps' blocks cover the result. -/
theorem cover (i : S48x32768.Idx) : ∃ t : Fin cfg0.N, (cfg0.win 4).flush t = true ∧ i ∈ ((cfg0.win 4).blk t).view.set := by
  have h0 : (i 0).val < 48 := (i 0).isLt
  have h1 : (i 1).val < 32768 := (i 1).isLt
  have hN : cfg0.N = 32 := N_0
  have ht : (i 1).val / 1024 < cfg0.N := by omega
  obtain ⟨_, _, _, _, _, _, _, _, _, f0, f1⟩ := idx_facts ⟨(i 1).val / 1024, ht⟩
  refine ⟨⟨(i 1).val / 1024, ht⟩, flush0_4 _, ?_⟩
  show i ∈ ((View.whole main_v4).slice (win0_4.rect ⟨(i 1).val / 1024, ht⟩)).set
  rw [View.set_slice_whole, Rect.mem_set_unit]
  intro a
  match a with
  | ⟨0, _⟩ =>
    show win0_4.index ⟨(i 1).val / 1024, ht⟩ (0 : Fin 2) * 48 ≤ (i 0).val
      ∧ (i 0).val < win0_4.index ⟨(i 1).val / 1024, ht⟩ (0 : Fin 2) * 48 + 48
    omega
  | ⟨1, _⟩ =>
    show win0_4.index ⟨(i 1).val / 1024, ht⟩ (1 : Fin 2) * 1024 ≤ (i 1).val
      ∧ (i 1).val < win0_4.index ⟨(i 1).val / 1024, ht⟩ (1 : Fin 2) * 1024 + 1024
    rw [f1]; dsimp only; omega

/-- The result array after the run. -/
theorem final (c : Dev nD) (hx : ∀ g l, (V m c main_v3 (ix2 g l) : BitVec 32).toNat < 512) :
    (dats m 0 c).arrAt 4 cfg0.N = arrG (V m c main_v0) (V m c main_v2) (V m c main_v3) (V m c main_v1) :=
  (dats m 0 c).arrAt_eq_of_cover 4 (arrG (V m c main_v0) (V m c main_v2) (V m c main_v3) (V m c main_v1))
    (fun t _ => flushed_eq m c hx t) cover

/-! ## The four arrays the steps read, of the arguments -/

theorem V0_apply (c : Dev nD) (b : Fin 48) (k : Fin 1024) :
    V m c main_v0 (ix2 b k) = m ((c : Thread nD τ).loc main_arg0) (ix2 k b) := by
  show StableHlo.after hostOps0 _ (Proc.devRef .tc main_v0) (ix2 b k) = _
  after_results_simp
  pointwise

theorem V2_apply (c : Dev nD) (g : Fin 256) (r : Fin 256) (l : Fin 128) :
    V m c main_v2 (ix3 g r l) = m ((c : Thread nD τ).loc main_arg1)
      (ix1 ⟨g.val * 32768 + r.val * 128 + l.val, by omega⟩) := by
  show StableHlo.after hostOps0 _ (Proc.devRef .tc main_v2) (ix3 g r l) = _
  after_results_simp
  pointwise

theorem V3_apply (c : Dev nD) (g : Fin 256) (l : Fin 128) :
    V m c main_v3 (ix2 g l) = m ((c : Thread nD τ).loc main_arg2) (ix1 ⟨g.val * 128 + l.val, by omega⟩) := by
  show StableHlo.after hostOps0 _ (Proc.devRef .tc main_v3) (ix2 g l) = _
  after_results_simp
  pointwise

theorem V1_apply (c : Dev nD) (g : Fin 256) (l : Fin 128) :
    V m c main_v1 (ix2 g l) = m ((c : Thread nD τ).loc main_arg3) (ix1 ⟨g.val * 128 + l.val, by omega⟩) := by
  show StableHlo.after hostOps0 _ (Proc.devRef .tc main_v1) (ix2 g l) = _
  after_results_simp
  pointwise

/-! ## The result: the array of the call, transposed -/

/-- What the host operation after the call leaves in the result's buffer. -/
theorem tail_result (c : Dev nD) :
    Pipeline.afterTail₀ cfgs (dats m) 0 (V0 m) [hostOps1] c main_v5
      = transpose S32768x48 [1, 0] ((dats m 0 c).arrAt 4 cfg0.N) transposes_S48x32768_S32768x48_1_0 := by
  unfold Pipeline.afterTail₀
  show StableHlo.after hostOps1 _ (Proc.devRef .tc main_v5) = _
  after_results_simp
  exact congrArg (transpose S32768x48 [1, 0] · transposes_S48x32768_S32768x48_1_0)
    (Pipeline.withArrays_arr spec0 (by decide) c (V0 m c) (fun w => (dats m 0 c).arrAt w cfg0.N) 4)

/-- The run: the result is the call's array transposed, the arguments are as at the start. -/
theorem run_result (ρ : Dev nD → PrngReg) :
    θ_run defs (onTc (τ := τ) (main (F := Ideal))) ⟨m, fun _ => 0, ρ⟩ fun r => ∀ c : Dev nD,
      r.2.mem ((c : Thread nD τ).loc main_v5)
        = transpose S32768x48 [1, 0] ((dats m 0 c).arrAt 4 cfg0.N) transposes_S48x32768_S32768x48_1_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RefValue

end
-- ==== Proof.Reference.lean ====
/-
  The reference's result read at an index: the gather's element, the sorted row an index word names, and a code as a signed
  byte of a packed word.
-/
module

public import proofs.«01_k».proof.Proof.Tile
public import proofs.«01_k».proof.Proof.Gen.ReferenceIdeal.Read

@[expose] public section

noncomputable section

namespace Cert.ReferenceIdeal.RefValue

open Cert.ReferenceIdeal Cert.ReferenceIdeal.Gen Cert.ReferenceIdeal.Read
open Idealize.ShloMosaic Idealize.ShloMosaic.TcCoe Idealize.SL.Sem
open Cert.KernelIdeal.RefValue (byteVal)

/-! ## The gather of columns -/

/-- The gather's element at `(b, p)`: row `b` of the column its start index names, read signed and clamped into the array. -/
theorem gather_apply {α : Type} (x : S48x32768.Idx → α) (idx : IVec S32768x1 32) (b : Fin 48) (p : Fin 32768) :
    Host.gather gather_S48x32768_S32768x1_S48x32768_0_1_n_n_1_1_481 x idx (ix2 b p)
      = x (ix2 b ⟨min (idx (ix2 p 0)).toInt.toNat 32767, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    show 0 + 0 + b.val = b.val
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S48x32768_S32768x1_S48x32768_0_1_n_n_1_1_481.startIndexMap from
      List.mem_singleton.mpr rfl)]
    have hsi : gather_S48x32768_S32768x1_S48x32768_0_1_n_n_1_1_481.siIdx (ix2 b p)
        ⟨List.idxOf (1 : Fin 2) gather_S48x32768_S32768x1_S48x32768_0_1_n_n_1_1_481.startIndexMap,
          List.idxOf_lt_length_iff.2 (List.mem_singleton.mpr rfl)⟩ = ix2 p 0 := by
      funext d; refine Fin.ext ?_
      match d with
      | ⟨0, _⟩ => rfl
      | ⟨1, _⟩ => rfl
    rw [hsi]
    rfl

/-! ## The sorted row an index word names -/

theorem sum_words (q : Nat) (hq : q < 64) (v : BitVec 32) (hv : v.toNat < 512) :
    (IntOp.addi (IntOp.muli (BitVec.ofNat 32 q) 512#32) v).toNat = 512 * q + v.toNat := by
  show ((BitVec.ofNat 32 q * 512#32) + v).toNat = _
  rw [BitVec.toNat_add, BitVec.toNat_mul, BitVec.toNat_ofNat, BitVec.toNat_ofNat]
  omega

theorem v25_apply (x2 : Vec Ideal S32768 .i32) (p : Fin 32768) :
    val_main_v25 (F := Ideal) x2 (ix1 p)
      = IntOp.addi (IntOp.muli (BitVec.ofNat 32 (p.val / 512)) 512#32) (x2 (ix1 p)) := by
  rw [val_main_v25_apply, val_main_v24_apply, val_main_v23_apply, val_main_v21_apply, val_main_v20_apply,
    val_main_v19_apply, val_main_c_2_apply, val_main_v18_apply, val_main_v22_apply]
  congr 2
  funext a; apply Fin.ext
  match a with
  | ⟨0, _⟩ => show p.val / 512 * 512 + p.val % 512 = p.val; omega

/-- The start index of column `p`: the first sorted row of its window, plus its index word. -/
theorem v31_apply (x2 : Vec Ideal S32768 .i32) (p : Fin 32768) (hv : (x2 (ix1 p) : BitVec 32).toNat < 512) :
    (val_main_v31 (F := Ideal) x2 (ix2 p 0)).toInt.toNat = 512 * (p.val / 512) + (x2 (ix1 p) : BitVec 32).toNat := by
  have hn := sum_words (p.val / 512) (by omega) (x2 (ix1 p)) hv
  have e : val_main_v31 (F := Ideal) x2 (ix2 p 0)
      = IntOp.addi (IntOp.muli (BitVec.ofNat 32 (p.val / 512)) 512#32) (x2 (ix1 p)) := by
    rw [val_main_v31_apply]
    have ei : idx_main_v31 (ix2 p 0) = ix1 p := by
      funext a; apply Fin.ext
      match a with
      | ⟨0, _⟩ => rfl
    rw [ei, val_main_v30_apply, val_main_v27_apply, val_main_v26_apply, val_main_c_3_apply, v25_apply]
    generalize IntOp.addi (IntOp.muli (BitVec.ofNat 32 (p.val / 512)) 512#32) (x2 (ix1 p)) = s at hn ⊢
    have hs : IntOp.cmpi .slt s 0#32 = 0#1 := by
      show BitVec.ofBool (s.slt 0#32) = 0#1
      have : s.slt 0#32 = false := by
        rw [BitVec.slt_eq_decide, decide_eq_false_iff_not, BitVec.toInt_eq_toNat_of_lt (by omega)]
        simp
      rw [this]; rfl
    rw [hs]
    rfl
  rw [e]
  generalize IntOp.addi (IntOp.muli (BitVec.ofNat 32 (p.val / 512)) 512#32) (x2 (ix1 p)) = s at hn ⊢
  rw [BitVec.toInt_eq_toNat_of_lt (by omega), Int.toNat_natCast, hn]

/-! ## A code -/

/-- Shifted up to the top byte and back down with its sign: byte `q` of a word, read signed. -/
theorem byte_toInt (w : BitVec 32) (q : Nat) (hq : q < 4) :
    (IntOp.shrsi .host (IntOp.shli .host w (IntOp.subi 24#32 (IntOp.muli 8#32 (BitVec.ofNat 32 q)))) 24#32).toInt
      = (w.extractLsb' (8 * q) 8).toInt := by
  have ha : IntOp.subi 24#32 (IntOp.muli 8#32 (BitVec.ofNat 32 q)) = BitVec.ofNat 32 (24 - 8 * q) := by
    rcases (by omega : q = 0 ∨ q = 1 ∨ q = 2 ∨ q = 3) with rfl | rfl | rfl | rfl <;> rfl
  have hm : (BitVec.ofNat 32 (24 - 8 * q)).toNat = 24 - 8 * q := by
    rw [BitVec.toNat_ofNat]; omega
  rw [ha]
  unfold IntOp.shrsi IntOp.shli
  rw [if_pos (by decide), if_pos (by omega)]
  rw [← BitVec.toInt_signExtend_of_le (x := w.extractLsb' (8 * q) 8) (v := 32) (by decide)]
  congr 1
  apply BitVec.eq_of_getLsbD_eq
  intro i hi
  show ((w <<< (BitVec.ofNat 32 (24 - 8 * q))).sshiftRight 24).getLsbD i = _
  rw [BitVec.getLsbD_sshiftRight, BitVec.getLsbD_signExtend, BitVec.shiftLeft_eq', hm, BitVec.msb_eq_getLsbD_last,
    BitVec.msb_eq_getLsbD_last, BitVec.getLsbD_shiftLeft, BitVec.getLsbD_shiftLeft, BitVec.getLsbD_extractLsb',
    BitVec.getLsbD_extractLsb']
  by_cases h8 : i < 8
  · have h1 : 24 + i < 32 := by omega
    have h2 : ¬ 24 + i < 24 - 8 * q := by omega
    simp only [h8, h1, h2, hi, decide_true, decide_false, if_true, Bool.not_true, Bool.true_and, Bool.not_false,
      Bool.and_true, show ¬ 32 ≤ i by omega]
    congr 1; omega
  · have h1 : ¬ 24 + i < 32 := by omega
    have h2 : ¬ 31 < 24 - 8 * q := by omega
    simp only [h8, h1, h2, hi, decide_true, decide_false, if_false, Bool.true_and, Bool.not_false,
      Bool.and_true, show ¬ 32 ≤ i by omega]
    simp only [show 32 - 1 = 31 by rfl, h2, show (31 : Nat) < 32 by decide, decide_true, decide_false, Bool.not_false,
      Bool.true_and, show (8 - 1 : Nat) < 8 by decide]
    congr 1; omega

/-- The flat position of the word holding the code of row `k` of sorted row `n`. -/
def wordAt (n k : Nat) : Nat := (n / 128 * 256 + k / 4) * 128 + n % 128

theorem wordAt_lt (n k : Nat) (hn : n < 32768) (hk : k < 1024) : wordAt n k < 8388608 := by
  unfold wordAt; omega

/-- The reference's code of row `k` of sorted row `n`, over the reals. -/
theorem v14_apply (x1 : Vec Ideal S8388608 .i32) (k : Fin 1024) (n : Fin 32768) :
    val_main_v14 (F := Ideal) x1 (ix2 k n)
      = byteVal (x1 (ix1 ⟨wordAt n.val k.val, wordAt_lt _ _ n.isLt k.isLt⟩)) (k.val % 4) := by
  have e13 : idx_main_v13 (ix2 k n) = ix3 k ⟨n.val / 128, by omega⟩ ⟨n.val % 128, by omega⟩ := by
    funext a; apply Fin.ext
    match a with
    | ⟨0, _⟩ => show (k.val * 32768 + n.val) / 32768 = k.val; omega
    | ⟨1, _⟩ => show (k.val * 32768 + n.val) / 128 % 256 = n.val / 128; omega
    | ⟨2, _⟩ => show (k.val * 32768 + n.val) % 128 = n.val % 128; omega
  have e11 : idx_main_v11 (idx_main_v12 (ix3 k ⟨n.val / 128, by omega⟩ ⟨n.val % 128, by omega⟩))
      = fun a => match a with
        | ⟨0, _⟩ => ⟨n.val / 128, by have := n.isLt; show n.val / 128 < 256; omega⟩
        | ⟨1, _⟩ => ⟨k.val / 4, by have := k.isLt; show k.val / 4 < 256; omega⟩
        | ⟨2, _⟩ => ⟨k.val % 4, by show k.val % 4 < 4; omega⟩
        | ⟨3, _⟩ => ⟨n.val % 128, by show n.val % 128 < 128; omega⟩ := by
    have := n.isLt; have := k.isLt
    funext a; apply Fin.ext
    match a with
    | ⟨0, _⟩ => show ((n.val / 128 * 1024 + k.val) * 128 + n.val % 128) / 131072 = n.val / 128; omega
    | ⟨1, _⟩ => show ((n.val / 128 * 1024 + k.val) * 128 + n.val % 128) / 512 % 256 = k.val / 4; omega
    | ⟨2, _⟩ => show ((n.val / 128 * 1024 + k.val) * 128 + n.val % 128) / 128 % 4 = k.val % 4; omega
    | ⟨3, _⟩ => show ((n.val / 128 * 1024 + k.val) * 128 + n.val % 128) % 128 = n.val % 128; omega
  rw [val_main_v14_apply, val_main_v13_apply, e13, val_main_v12_apply, val_main_v11_apply, e11, val_main_v10_apply,
    val_main_v9_apply, val_main_c_1_apply, val_main_v8_apply, val_main_v7_apply, val_main_v6_apply, val_main_v5_apply,
    val_main_c_0_apply, val_main_v4_apply, val_main_v3_apply, val_main_c_apply, val_main_v2_apply, val_main_v1_apply,
    val_main_v0_apply]
  show (((IntOp.shrsi .host (IntOp.shli .host (x1 _)
    (IntOp.subi 24#32 (IntOp.muli 8#32 (BitVec.ofNat 32 (k.val % 4))))) 24#32).toInt : ℝ) : EReal) = _
  rw [byte_toInt _ _ (by omega)]
  unfold byteVal
  congr 5
  funext a; apply Fin.ext
  match a with
  | ⟨0, _⟩ => rfl

/-! ## The result -/

/-- The reference's result at `(b, p)`: the sum over the rows of the vectors' entries times the codes of the sorted row
    the index word names, times the scale. -/
theorem result_apply (x0 : Vec Ideal S1024x48 .bf16) (x1 : Vec Ideal S8388608 .i32) (x2 : Vec Ideal S32768 .i32)
    (x3 : Vec Ideal S32768 .f32) (b : Fin 48) (p : Fin 32768) (hv : (x2 (ix1 p) : BitVec 32).toNat < 512) :
    val_main_v36 (F := Ideal) x0 x1 x2 x3 (ix2 b p)
      = ((∑ k : Fin 1024, (x0 (ix2 k b) : EReal)
          * byteVal (x1 (ix1 ⟨wordAt (512 * (p.val / 512) + (x2 (ix1 p) : BitVec 32).toNat) k.val,
              wordAt_lt _ _ (by omega) k.isLt⟩)) (k.val % 4)) * x3 (ix1 p) : EReal) := by
  rw [val_main_v36_apply, val_main_v35_apply, val_main_v34_apply, val_main_v33_apply]
  have e3 : idx_main_v33 (idx_main_v34 (ix2 b p)) = ix1 p := by
    funext a; apply Fin.ext
    match a with
    | ⟨0, _⟩ => rfl
  have e32 : val_main_v32 (F := Ideal) x0 x1 x2 (ix2 b p) = val_main_v17 (F := Ideal) x0 x1
      (ix2 b ⟨512 * (p.val / 512) + (x2 (ix1 p) : BitVec 32).toNat, by omega⟩) := by
    unfold val_main_v32
    rw [gather_apply]
    congr 2
    apply Fin.ext
    show min _ _ = _
    rw [v31_apply x2 p hv]
    exact Nat.min_eq_left (by omega)
  rw [e3, e32, val_main_v17_apply]
  show (_ * _ : EReal) = _
  congr 1
  refine Finset.sum_congr rfl fun k _ => ?_
  have el : lidx_main_v17 (ix2 b ⟨512 * (p.val / 512) + (x2 (ix1 p) : BitVec 32).toNat, by omega⟩) k = ix2 b k := by
    funext a; apply Fin.ext
    match a with
    | ⟨0, _⟩ => rfl
    | ⟨1, _⟩ => rfl
  have er : ridx_main_v17 (ix2 b ⟨512 * (p.val / 512) + (x2 (ix1 p) : BitVec 32).toNat, by omega⟩) k
      = ix2 k ⟨512 * (p.val / 512) + (x2 (ix1 p) : BitVec 32).toNat, by omega⟩ := by
    funext a; apply Fin.ext
    match a with
    | ⟨0, _⟩ => rfl
    | ⟨1, _⟩ => rfl
  rw [el, er, v14_apply, val_main_v16_apply, val_main_v15_apply]
  have e0 : idx_main_v15 (ix2 b k) = ix2 k b := by
    funext a; apply Fin.ext
    match a with
    | ⟨0, _⟩ => rfl
    | ⟨1, _⟩ => rfl
  rw [e0]
  rfl

end Cert.ReferenceIdeal.RefValue

end
-- ==== Proof.Equation.lean ====
/-
  The two programs compute one array: the kernel's entry and the reference's entry at an index, of the same arguments.
-/
module

public import proofs.«01_k».proof.Defs
public import proofs.«01_k».proof.Proof.Array
public import proofs.«01_k».proof.Proof.Reference

@[expose] public section

noncomputable section

namespace Cert.Equation

open Idealize.ShloMosaic Idealize.ShloMosaic.TcCoe Idealize.SL.Sem
open Cert.KernelIdeal.RefValue Cert.ReferenceIdeal.RefValue

/-- The precondition's shape facts. -/
theorem preFacts : Cert.Pre_inv_in_window.Facts where
  bcast_S_S32768 := by decide

/-- A signed word at least zero and below 512 is a number below 512. -/
theorem word_lt (v : BitVec 32) (h : IntOp.andi (IntOp.cmpi .sge v 0#32) (IntOp.cmpi .slt v 512#32) = 1#1) :
    v.toNat < 512 := by
  have h' : BitVec.ofBool ((0#32).sle v) &&& BitVec.ofBool (v.slt 512#32) = 1#1 := h
  have h0 : (0#32).sle v = true := by
    cases e : (0#32).sle v
    · rw [e] at h'; cases e2 : v.slt 512#32 <;> rw [e2] at h' <;> exact absurd h' (by decide)
    · rfl
  have h1 : v.slt 512#32 = true := by
    cases e : v.slt 512#32
    · rw [e, h0] at h'; exact absurd h' (by decide)
    · rfl
  rw [BitVec.sle_eq_decide, decide_eq_true_iff] at h0
  rw [BitVec.slt_eq_decide, decide_eq_true_iff] at h1
  have e512 : (512#32).toInt = 512 := by decide
  have e0 : (0#32).toInt = 0 := by decide
  rw [e512] at h1
  rw [e0] at h0
  rw [BitVec.toInt_eq_toNat_cond] at h0 h1
  have := v.isLt
  split_ifs at h0 h1 <;> omega

/-- What the precondition says of the index words. -/
theorem words_lt (a0 : FVec Ideal ⟨2, ![1024, 48]⟩ .bf16) (a1 : IVec ⟨1, ![8388608]⟩ 32) (a2 : IVec ⟨1, ![32768]⟩ 32)
    (a3 : FVec Ideal ⟨1, ![32768]⟩ .f32)
    (h : (letI := preFacts; Cert.Pre_inv_in_window.fn (F := Ideal) a0 a1 a2 a3) = fun _ => 1#1) (p : Fin 32768) :
    (a2 (ix1 p)).toNat < 512 :=
  word_lt _ (congrFun h (ix1 p))

/-- One entry of the kernel's result, of arrays that are the arguments transposed and reshaped. -/
theorem entry_eq (A0 : Vec Ideal Cert.KernelIdeal.S48x1024 .bf16) (A1 : Vec Ideal Cert.KernelIdeal.S256x256x128 .i32)
    (A2 : Vec Ideal Cert.KernelIdeal.S256x128 .i32) (A3 : Vec Ideal Cert.KernelIdeal.S256x128 .f32)
    (x0 : Vec Ideal Cert.ReferenceIdeal.S1024x48 .bf16) (x1 : Vec Ideal Cert.ReferenceIdeal.S8388608 .i32)
    (x2 : Vec Ideal Cert.ReferenceIdeal.S32768 .i32) (x3 : Vec Ideal Cert.ReferenceIdeal.S32768 .f32)
    (h0 : ∀ b k, A0 (ix2 b k) = x0 (ix2 k b))
    (h1 : ∀ (g : Fin 256) (r : Fin 256) (l : Fin 128),
      A1 (ix3 g r l) = x1 (ix1 ⟨g.val * 32768 + r.val * 128 + l.val, by omega⟩))
    (h2 : ∀ (g : Fin 256) (l : Fin 128), A2 (ix2 g l) = x2 (ix1 ⟨g.val * 128 + l.val, by omega⟩))
    (h3 : ∀ (g : Fin 256) (l : Fin 128), A3 (ix2 g l) = x3 (ix1 ⟨g.val * 128 + l.val, by omega⟩))
    (b : Fin 48) (p : Fin 32768) (hv : (x2 (ix1 p) : BitVec 32).toNat < 512) :
    entryOf A0 A1 A2 A3 b ⟨p.val / 128, by omega⟩ ⟨p.val % 128, by omega⟩
      = ((∑ k : Fin 1024, (x0 (ix2 k b) : EReal)
          * byteVal (x1 (ix1 ⟨wordAt (512 * (p.val / 512) + (x2 (ix1 p) : BitVec 32).toNat) k.val,
              wordAt_lt _ _ (by omega) k.isLt⟩)) (k.val % 4)) * x3 (ix1 p) : EReal) := by
  have hp := p.isLt
  have ep : (⟨p.val / 128 * 128 + p.val % 128, by omega⟩ : Fin 32768) = p :=
    Fin.ext (by show p.val / 128 * 128 + p.val % 128 = p.val; omega)
  unfold entryOf colSum
  simp only [h0, h1, h2, h3, ep]
  congr 1
  refine Finset.sum_congr rfl fun k _ => ?_
  have hk := k.isLt
  congr 4
  apply Fin.ext
  have key : ∀ v : Nat, v < 512 → (4 * (p.val / 128 / 4) + v / 128 % 4) * 32768 + k.val / 4 * 128 + v % 128
      = ((512 * (p.val / 512) + v) / 128 * 256 + k.val / 4) * 128 + (512 * (p.val / 512) + v) % 128 := by omega
  exact key _ hv

variable (m : (ℓ : Loc Cert.KernelIdeal.nD Cert.KernelIdeal.τ Cert.KernelIdeal.sig) → Buf (Elt Ideal) ℓ)

/-- The kernel's array is the reference's, of the kernel's arguments. -/
theorem arrays_eq (c : Dev Cert.KernelIdeal.nD)
    (hv : ∀ p : Fin 32768, (m ((c : Thread Cert.KernelIdeal.nD Cert.KernelIdeal.τ).loc Cert.KernelIdeal.main_arg2) (ix1 p) : BitVec 32).toNat < 512) :
    (Cert.KernelIdeal.Gen.dats m 0 c).arrAt 4 Cert.KernelIdeal.cfg0.N
      = Cert.ReferenceIdeal.Read.val_main_v36 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  rw [final m c (fun g l => by rw [V3_apply]; exact hv _)]
  funext y
  obtain ⟨b, p, rfl⟩ : ∃ (b : Fin 48) (p : Fin 32768), y = ix2 b p :=
    ⟨⟨(y 0).val, (y 0).isLt⟩, ⟨(y 1).val, (y 1).isLt⟩, by
      funext a; apply Fin.ext
      match a with
      | ⟨0, _⟩ => rfl
      | ⟨1, _⟩ => rfl⟩
  refine Eq.trans ?_ (result_apply _ _ _ _ b p (hv p)).symm
  exact entry_eq _ _ _ _ _ _ _ _ (V0_apply m c) (V2_apply m c) (V3_apply m c) (V1_apply m c) b p (hv p)

end Cert.Equation

end
-- ==== Proof.lean ====
/-
  The proof of `Cert.Claim`: the frames from the generated frame proofs and the reference's run, and the two idealized
  programs' results equal wherever every index word lies in its window.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The reference terminates with its arguments and every semaphore counter as at the start. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The kernel and the reference end with the same result. -/
theorem values : Cert.algebraic_KernelIdeal_ReferenceIdeal_pre_inv_in_window (hKernelIdeal := Cert.KernelIdeal.Gen.facts)
    (hReferenceIdeal := Cert.ReferenceIdeal.Gen.facts) (hPre_inv_in_window := Cert.Equation.preFacts) := by
  intro m g m' g' hpre hagree
  refine ⟨fun c => transpose Cert.KernelIdeal.S32768x48 [1, 0] ((Cert.KernelIdeal.Gen.dats m 0 c).arrAt 4 Cert.KernelIdeal.cfg0.N)
      Cert.KernelIdeal.Gen.facts.transposes_S48x32768_S32768x48_1_0,
    Cert.KernelIdeal.RefValue.run_result m g, ?_⟩
  refine (θ_run _ _ _).mono (fun r h c => ⟨(h c).1.trans ?_, (h c).2⟩) (Cert.ReferenceIdeal.Value.run m' g')
  obtain ⟨h0, h1, h2, h3⟩ := hagree c
  rw [Cert.ReferenceIdeal.Read.val_main_v37_eq, h0, h1, h2, h3]
  dsimp only
  rw [Cert.Equation.arrays_eq m c (fun p => Cert.Equation.words_lt _ _ _ _ (hpre c) p)]
  rfl

theorem claim : Cert.Claim :=
  ⟨Cert.Kernel.Gen.facts, Cert.KernelIdeal.Gen.facts, Cert.ReferenceIdeal.Gen.facts, Cert.Equation.preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    values⟩

end Cert.Proof

end
